-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8 : Shape := ⟨2, ![4096, 8]⟩
abbrev S4096x5120 : Shape := ⟨2, ![4096, 5120]⟩
abbrev S4096x160 : Shape := ⟨2, ![4096, 160]⟩
abbrev S256x8 : Shape := ⟨2, ![256, 8]⟩
abbrev S256x5120 : Shape := ⟨2, ![256, 5120]⟩
abbrev S256x160 : Shape := ⟨2, ![256, 160]⟩
abbrev S1x8 : Shape := ⟨2, ![1, 8]⟩
abbrev S256 : Shape := ⟨1, ![256]⟩
abbrev S256x1 : Shape := ⟨2, ![256, 1]⟩
abbrev S256x256 : Shape := ⟨2, ![256, 256]⟩
abbrev S8 : Shape := ⟨1, ![8]⟩
abbrev S32 : Shape := ⟨1, ![32]⟩
abbrev S1x1x32 : Shape := ⟨3, ![1, 1, 32]⟩
abbrev S4096x160x1 : Shape := ⟨3, ![4096, 160, 1]⟩
abbrev S4096x160x32 : Shape := ⟨3, ![4096, 160, 32]⟩
abbrev S_ : Shape := ⟨0, ![]⟩
abbrev S4096x8x640 : Shape := ⟨3, ![4096, 8, 640]⟩

abbrev nBuf : Space → Nat
  | .hbm => 17
  | .vmem => 7
  | .smem => 0
  | _ => 0

abbrev bufTy : (tb : Table) → Fin (tcTables nBuf tb) → BufTy
  | .hbm, ⟨0, _⟩ => ⟨S4096x8, .f32⟩
  | .hbm, ⟨1, _⟩ => ⟨S4096x5120, .f32⟩
  | .hbm, ⟨2, _⟩ => ⟨S4096x160, .i32⟩
  | .hbm, ⟨3, _⟩ => ⟨S32, .i32⟩
  | .hbm, ⟨4, _⟩ => ⟨S1x1x32, .i32⟩
  | .hbm, ⟨5, _⟩ => ⟨S4096x160x1, .i32⟩
  | .hbm, ⟨6, _⟩ => ⟨S4096x160x32, .i32⟩
  | .hbm, ⟨7, _⟩ => ⟨S4096x160x32, .i32⟩
  | .hbm, ⟨8, _⟩ => ⟨S4096x160x32, .i32⟩
  | .hbm, ⟨9, _⟩ => ⟨S_, .i32⟩
  | .hbm, ⟨10, _⟩ => ⟨S4096x160x32, .i32⟩
  | .hbm, ⟨11, _⟩ => ⟨S4096x160x32, .i32⟩
  | .hbm, ⟨12, _⟩ => ⟨S_, .i32⟩
  | .hbm, ⟨13, _⟩ => ⟨S4096x160x32, .i32⟩
  | .hbm, ⟨14, _⟩ => ⟨S4096x160x32, .i1⟩
  | .hbm, ⟨15, _⟩ => ⟨S4096x8x640, .f32⟩
  | .hbm, ⟨16, _⟩ => ⟨S4096x8x640, .i1⟩
  | .local _ .vmem, ⟨0, _⟩ => ⟨S256x8, .f32⟩
  | .local _ .vmem, ⟨1, _⟩ => ⟨S256x8, .f32⟩
  | .local _ .vmem, ⟨2, _⟩ => ⟨S256x5120, .f32⟩
  | .local _ .vmem, ⟨3, _⟩ => ⟨S256x5120, .f32⟩
  | .local _ .vmem, ⟨4, _⟩ => ⟨S256x160, .i32⟩
  | .local _ .vmem, ⟨5, _⟩ => ⟨S256x160, .i32⟩
  | .local _ .vmem, ⟨6, _⟩ => ⟨S1x8, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x160 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S1x640 : Shape := ⟨2, ![1, 640]⟩
abbrev S4096x640 : Shape := ⟨2, ![4096, 640]⟩
abbrev S4096x8x1 : Shape := ⟨3, ![4096, 8, 1]⟩
abbrev S4096x1x640 : Shape := ⟨3, ![4096, 1, 640]⟩
abbrev S4096x8x640 : Shape := ⟨3, ![4096, 8, 640]⟩

abbrev nBuf : Space → Nat
  | .hbm => 57
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S_, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x8, .f32⟩
  | .hbm, ⟨14, _⟩ => ⟨S4096x8, .f32⟩
  | .hbm, ⟨15, _⟩ => ⟨S4096x8, .i32⟩
  | .hbm, ⟨16, _⟩ => ⟨S_, .f32⟩
  | .hbm, ⟨17, _⟩ => ⟨S_, .i32⟩
  | .hbm, ⟨18, _⟩ => ⟨S4096, .f32⟩
  | .hbm, ⟨19, _⟩ => ⟨S4096, .i32⟩
  | .hbm, ⟨20, _⟩ => ⟨S4096x1, .i32⟩
  | .hbm, ⟨21, _⟩ => ⟨S1x8, .i32⟩
  | .hbm, ⟨22, _⟩ => ⟨S4096x8, .i32⟩
  | .hbm, ⟨23, _⟩ => ⟨S4096x8, .i32⟩
  | .hbm, ⟨24, _⟩ => ⟨S4096x8, .i1⟩
  | .hbm, ⟨25, _⟩ => ⟨S4096x8, .i32⟩
  | .hbm, ⟨26, _⟩ => ⟨S_, .i32⟩
  | .hbm, ⟨27, _⟩ => ⟨S_, .i32⟩
  | .hbm, ⟨28, _⟩ => ⟨S4096x8, .i32⟩
  | .hbm, ⟨29, _⟩ => ⟨S_, .i32⟩
  | .hbm, ⟨30, _⟩ => ⟨S4096x8, .i32⟩
  | .hbm, ⟨31, _⟩ => ⟨S4096x8, .i32⟩
  | .hbm, ⟨32, _⟩ => ⟨S_, .i32⟩
  | .hbm, ⟨33, _⟩ => ⟨S4096x8, .i32⟩
  | .hbm, ⟨34, _⟩ => ⟨S4096x8, .i1⟩
  | .hbm, ⟨35, _⟩ => ⟨S4096x8, .i32⟩
  | .hbm, ⟨36, _⟩ => ⟨S4096x8, .i32⟩
  | .hbm, ⟨37, _⟩ => ⟨S4096x8, .i32⟩
  | .hbm, ⟨38, _⟩ => ⟨S_, .i32⟩
  | .hbm, ⟨39, _⟩ => ⟨S4096, .i32⟩
  | .hbm, ⟨40, _⟩ => ⟨S4096x1, .i32⟩
  | .hbm, ⟨41, _⟩ => ⟨S1x640, .i32⟩
  | .hbm, ⟨42, _⟩ => ⟨S4096x640, .i32⟩
  | .hbm, ⟨43, _⟩ => ⟨S4096x640, .i32⟩
  | .hbm, ⟨44, _⟩ => ⟨S4096x640, .i1⟩
  | .hbm, ⟨45, _⟩ => ⟨S4096x640, .f32⟩
  | .hbm, ⟨46, _⟩ => ⟨S4096x8, .f32⟩
  | .hbm, ⟨47, _⟩ => ⟨S4096x8, .f32⟩
  | .hbm, ⟨48, _⟩ => ⟨S4096x8x1, .f32⟩
  | .hbm, ⟨49, _⟩ => ⟨S4096x1x640, .f32⟩
  | .hbm, ⟨50, _⟩ => ⟨S4096x8x640, .f32⟩
  | .hbm, ⟨51, _⟩ => ⟨S4096x8x640, .f32⟩
  | .hbm, ⟨52, _⟩ => ⟨S4096x8x640, .f32⟩
  | .hbm, ⟨53, _⟩ => ⟨S_, .f32⟩
  | .hbm, ⟨54, _⟩ => ⟨S4096x8x640, .f32⟩
  | .hbm, ⟨55, _⟩ => ⟨S4096x8x640, .i1⟩
  | .hbm, ⟨56, _⟩ => ⟨S4096x8x640, .i1⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_call2_call0_c : Ref sig .tc := ⟨.hbm, 26, rfl⟩
abbrev main_call2_call0_v0 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Proof.Frames.lean ====
/-
  EACH PROGRAM RUNS TO COMPLETION: the kernel as compiled, the kernel over the extended reals, and the reference.
-/
module

public import proofs.«01_k».proof.Defs
public import proofs.«01_k».proof.Proof.Gen.Kernel.Frame
public import proofs.«01_k».proof.Proof.Gen.KernelIdeal.Frame
public import proofs.«01_k».proof.Proof.Gen.ReferenceIdeal
public import Idealize.ShloMosaic.Lib.Claim

@[expose] public section

set_option maxRecDepth 16384

noncomputable section

namespace Cert.Proof

open Idealize.ShloMosaic Idealize.SL.Sem

/-- The compiled kernel runs to completion, leaves its argument as it was and every semaphore counter at zero. -/
theorem frame_kernel : Cert.quiescent_Kernel := fun m g _ => Cert.Kernel.Gen.frame m g

/-- So does the kernel over the extended reals. -/
theorem frame_kernelIdeal : Cert.quiescent_KernelIdeal := fun m g _ => Cert.KernelIdeal.Gen.frame m g

set_option maxHeartbeats 1600000 in
/-- So does the reference over the extended reals. -/
theorem frame_referenceIdeal : Cert.quiescent_ReferenceIdeal := by
  intro m g _
  hlo_run
  · exact fun _ => trivial
  · exact Idealize.ShloMosaic.sem_eq_zero_of_no_sems (sig := Cert.ReferenceIdeal.sig) (by decide) _

end Cert.Proof
-- ==== Proof.Spec.lean ====
/-
  WHAT THE ROUTER COMPUTES, stated once and for both programs, over one row of eight scores (`r : Fin 8 → EReal`) and over
  the 4096 rows of the argument: the row's greatest score, its softmax weights, its chosen expert (the first column that
  holds the greatest score), how many earlier rows chose the same expert, and the two results — the weight placed at
  (row, chosen expert, number of earlier rows with that choice) while that number is below the capacity 640, and the mask of
  those places.
-/
module

public import Idealize.ShloMosaic.PureOps.Ideal.Laws

@[expose] public section

noncomputable section

namespace Cert.Router

open Idealize.ShloMosaic

/-! ## One row -/

/-- The greatest score of a row. -/
def rowMax (r : Fin 8 → EReal) : EReal := Finset.univ.fold max ⊥ r

/-- No score of the row is above its greatest. -/
theorem le_rowMax (r : Fin 8 → EReal) (e : Fin 8) : r e ≤ rowMax r :=
  (Finset.le_fold_max (r e)).2 (Or.inr ⟨e, Finset.mem_univ e, le_refl _⟩)

/-- The greatest score is one of the row's. -/
theorem exists_eq_rowMax (r : Fin 8 → EReal) : ∃ e, r e = rowMax r := by
  obtain ⟨e, _, he⟩ := Finset.exists_max_image (Finset.univ : Finset (Fin 8)) r ⟨0, Finset.mem_univ 0⟩
  refine ⟨e, le_antisymm (le_rowMax r e) ?_⟩
  exact (Finset.fold_max_le (r e)).2 ⟨bot_le, fun k hk => he k hk⟩

/-- The columns that hold the row's greatest score. -/
def tops (r : Fin 8 → EReal) : Finset (Fin 8) := Finset.univ.filter fun e => r e = rowMax r

/-- Some column does. -/
theorem tops_nonempty (r : Fin 8 → EReal) : (tops r).Nonempty := by
  obtain ⟨e, he⟩ := exists_eq_rowMax r
  exact ⟨e, Finset.mem_filter.2 ⟨Finset.mem_univ e, he⟩⟩

/-- The chosen expert: the first column that holds the row's greatest score. -/
def top (r : Fin 8 → EReal) : Fin 8 := (tops r).min' (tops_nonempty r)

/-- The chosen column holds the row's greatest score. -/
theorem top_eq (r : Fin 8 → EReal) : r (top r) = rowMax r :=
  (Finset.mem_filter.1 ((tops r).min'_mem (tops_nonempty r))).2

/-- No earlier column does. -/
theorem top_le (r : Fin 8 → EReal) (e : Fin 8) (h : r e = rowMax r) : top r ≤ e :=
  (tops r).min'_le e (Finset.mem_filter.2 ⟨Finset.mem_univ e, h⟩)

/-- The row's softmax weight at a column. -/
def soft (r : Fin 8 → EReal) (e : Fin 8) : EReal :=
  Ideal.div (Ideal.exp (r e - rowMax r)) (∑ k, Ideal.exp (r k - rowMax r))

/-- Where the greatest score is real, every exponential of a difference is a nonnegative real. -/
theorem exp_sub_real (r : Fin 8 → EReal) (a : ℝ) (h : rowMax r = (a : EReal)) (e : Fin 8) :
    ∃ f : ℝ, 0 ≤ f ∧ Ideal.exp (r e - rowMax r) = (f : EReal) := by
  have hle := le_rowMax r e
  rw [h] at hle ⊢
  generalize r e = x at hle ⊢
  induction x using EReal.rec with
  | bot => exact ⟨0, le_refl _, by rw [EReal.bot_sub]; rfl⟩
  | top => exact absurd hle (not_le.2 (EReal.coe_lt_top a))
  | coe b => exact ⟨Real.exp (b - a), (Real.exp_pos _).le, by rw [← EReal.coe_sub]; rfl⟩

/-- The chosen expert's weight is not zero, whatever the scores: where the greatest score is real it is one over a positive
    real sum, and where it is infinite it is zero divided by zero, which the ideal division does not make zero. -/
theorem soft_top_ne_zero (r : Fin 8 → EReal) : soft r (top r) ≠ 0 := by
  have h1 := top_eq r
  unfold soft
  rw [h1]
  rcases hm : rowMax r with _ | _ | a
  · -- every score is the bottom
    have hz : ∀ k, Ideal.exp (r k - (⊥ : EReal)) = 0 := fun k => by
      have : r k = ⊥ := le_bot_iff.1 (by have := le_rowMax r k; rw [hm] at this; exact this)
      rw [this, EReal.bot_sub]; rfl
    have hz' : Ideal.exp ((⊥ : EReal) - ⊥) = 0 := by rw [EReal.bot_sub]; rfl
    change Ideal.div (Ideal.exp ((⊥ : EReal) - ⊥)) (∑ k, Ideal.exp (r k - (⊥ : EReal))) ≠ 0
    rw [hz', Finset.sum_congr rfl fun k _ => hz k, Finset.sum_const_zero]
    simp [Ideal.div]
  · have hz : ∀ k, Ideal.exp (r k - (⊤ : EReal)) = 0 := fun k => by
      rw [sub_eq_add_neg, EReal.neg_top, EReal.add_bot]; rfl
    have hz' : Ideal.exp ((⊤ : EReal) - ⊤) = 0 := by rw [sub_eq_add_neg, EReal.neg_top, EReal.add_bot]; rfl
    change Ideal.div (Ideal.exp ((⊤ : EReal) - ⊤)) (∑ k, Ideal.exp (r k - (⊤ : EReal))) ≠ 0
    rw [hz', Finset.sum_congr rfl fun k _ => hz k, Finset.sum_const_zero]
    simp [Ideal.div]
  · choose f hf0 hf using exp_sub_real r a hm
    have hs : (∑ k, Ideal.exp (r k - rowMax r)) = ((∑ k, f k : ℝ) : EReal) := by
      rw [Finset.sum_congr rfl fun k _ => hf k]
      exact (map_sum (⟨⟨fun y : ℝ => (y : EReal), EReal.coe_zero⟩, EReal.coe_add⟩ : ℝ →+ EReal) f Finset.univ).symm
    have ht : Ideal.exp (rowMax r - rowMax r) = ((1 : ℝ) : EReal) := by
      rw [show rowMax r = (a : EReal) from hm, ← EReal.coe_sub, sub_self]
      show ((Real.exp 0 : ℝ) : EReal) = _
      rw [Real.exp_zero]
    have hft : f (top r) = 1 := by
      have := hf (top r)
      rw [h1, ht] at this
      exact (EReal.coe_injective this).symm
    have hpos : 0 < ∑ k, f k :=
      lt_of_lt_of_le one_pos (hft ▸ Finset.single_le_sum (fun k _ => hf0 k) (Finset.mem_univ (top r)))
    change Ideal.div (Ideal.exp ((a : EReal) - a)) (∑ k, Ideal.exp (r k - (a : EReal))) ≠ 0
    have hm' : rowMax r = (a : EReal) := hm
    rw [← hm', ht, hs]
    unfold Ideal.div
    rw [if_neg (by exact_mod_cast hpos.ne'), ← EReal.coe_inv, ← EReal.coe_mul]
    have : (1 : ℝ) * (∑ k, f k)⁻¹ ≠ 0 := by rw [one_mul]; exact inv_ne_zero hpos.ne'
    exact_mod_cast this

/-! ## Counting choices -/

/-- How many of the first `n` choices are `e`. -/
def hits (T : ℕ → ℕ) (n e : ℕ) : ℕ := ∑ i ∈ Finset.range n, if T i = e then 1 else 0

/-- Among no choices there is no hit. -/
theorem hits_zero (T : ℕ → ℕ) (e : ℕ) : hits T 0 e = 0 := rfl

/-- One choice more adds one hit exactly when it is `e`. -/
theorem hits_succ (T : ℕ → ℕ) (n e : ℕ) : hits T (n + 1) e = hits T n e + if T n = e then 1 else 0 :=
  Finset.sum_range_succ _ _

/-- There are at most as many hits as choices. -/
theorem hits_le (T : ℕ → ℕ) (n e : ℕ) : hits T n e ≤ n := by
  induction n with
  | zero => exact le_refl _
  | succ n ih => rw [hits_succ]; split <;> omega

/-- The choices among the first `a + n` are those among the first `a` and those among the next `n`. -/
theorem hits_add (T : ℕ → ℕ) (a n e : ℕ) : hits T (a + n) e = hits T a e + hits (fun i => T (a + i)) n e :=
  Finset.sum_range_add _ _ _

/-- The same count as the sum of a list, the form a running sum is read in. -/
theorem list_sum_eq_hits (T : ℕ → ℕ) (n e : ℕ) :
    ((List.range n).map fun i => if T i = e then 1 else 0).sum = hits T n e := by
  induction n with
  | zero => rfl
  | succ n ih => rw [List.range_succ, List.map_append, List.sum_append, ih, hits_succ, List.map_singleton, List.sum_singleton]

/-! ## The results over all rows -/

/-- The choice of row `i` as a number (zero past the last row, where nothing is read). -/
def choice (x : Fin 4096 → Fin 8 → EReal) (i : ℕ) : ℕ := if h : i < 4096 then (top (x ⟨i, h⟩)).val else 0

/-- At a row of the argument the choice is the column chosen there. -/
theorem choice_fin (x : Fin 4096 → Fin 8 → EReal) (i : Fin 4096) : choice x i.val = (top (x i)).val := dif_pos i.isLt

/-- A choice is one of the eight columns. -/
theorem choice_lt (x : Fin 4096 → Fin 8 → EReal) (i : ℕ) : choice x i < 8 := by
  unfold choice; split
  · exact Fin.isLt _
  · decide

/-- How many rows before row `n` chose what row `n` chose. -/
def rank (x : Fin 4096 → Fin 8 → EReal) (n : ℕ) : ℕ := hits (choice x) n (choice x n)

/-- Row `n` occupies place `c` of expert `e`. -/
def At (x : Fin 4096 → Fin 8 → EReal) (n : Fin 4096) (e : Fin 8) (c : Fin 640) : Prop :=
  choice x n.val = e.val ∧ rank x n.val = c.val

/-- Whether a row occupies a place is decided by comparing numbers. -/
instance (x : Fin 4096 → Fin 8 → EReal) (n : Fin 4096) (e : Fin 8) (c : Fin 640) : Decidable (At x n e c) :=
  inferInstanceAs (Decidable (_ ∧ _))

/-- The first result: the row's weight at the place it occupies, zero elsewhere. -/
def combine (x : Fin 4096 → Fin 8 → EReal) (n : Fin 4096) (e : Fin 8) (c : Fin 640) : EReal :=
  if At x n e c then soft (x n) (top (x n)) else 0

/-- The second result: one at the place the row occupies, zero elsewhere. -/
def mask (x : Fin 4096 → Fin 8 → EReal) (n : Fin 4096) (e : Fin 8) (c : Fin 640) : BitVec 1 :=
  if At x n e c then 1#1 else 0#1

end Cert.Router
-- ==== Proof.Words.lean ====
/-
  THE WORDS both programs compute with, as numbers: an equality or order test of two small words, a test's bit read as a
  number, a count summed in the extended reals, the least of a row's candidate columns, the place number's word and bit.
-/
module

public import Idealize.ShloMosaic.Lib.Pointwise
public import Idealize.ShloMosaic.Lib.WordArith
public import proofs.«01_k».proof.Proof.Spec

@[expose] public section

set_option maxRecDepth 16384

noncomputable section

namespace Cert.Router

open Idealize.ShloMosaic

/-- The word of a number below 2^32 is that number. -/
theorem toNat_word {a : ℕ} (ha : a < 2 ^ 32) : (BitVec.ofNat 32 a).toNat = a := by
  rw [BitVec.toNat_ofNat]; exact Nat.mod_eq_of_lt ha

/-- Two words of numbers below 2^32 are equal exactly when the numbers are. -/
theorem word_inj {a b : ℕ} (ha : a < 2 ^ 32) (hb : b < 2 ^ 32) : BitVec.ofNat 32 a = BitVec.ofNat 32 b ↔ a = b :=
  ⟨fun h => by rw [← toNat_word ha, ← toNat_word hb, h], fun h => h ▸ rfl⟩

/-- The equality test of two words. -/
theorem cmpi_eq (v w : BitVec 32) : IntOp.cmpi .eq v w = if v = w then 1#1 else 0#1 := by
  show BitVec.ofBool (v == w) = _
  by_cases h : v = w
  · rw [if_pos h, h, beq_self_eq_true]; rfl
  · rw [if_neg h, beq_false_of_ne h]; rfl

/-- The equality test of two numbers' words. -/
theorem cmpi_eq_word {a b : ℕ} (ha : a < 2 ^ 32) (hb : b < 2 ^ 32) :
    IntOp.cmpi .eq (BitVec.ofNat 32 a) (BitVec.ofNat 32 b) = if a = b then 1#1 else 0#1 := by
  rw [cmpi_eq]; exact if_congr (word_inj ha hb) rfl rfl

/-- The signed order of two numbers' words. -/
theorem slt_word {a b : ℕ} (ha : a < 2 ^ 31) (hb : b < 2 ^ 31) :
    (BitVec.ofNat 32 a).slt (BitVec.ofNat 32 b) = decide (a < b) := by
  rw [BitVec.slt_eq_decide, BitVec.toInt_eq_toNat_of_lt (by rw [toNat_word (by omega)]; omega),
    BitVec.toInt_eq_toNat_of_lt (by rw [toNat_word (by omega)]; omega), toNat_word (by omega), toNat_word (by omega)]
  simp

/-- The greater-than test of two numbers' words. -/
theorem cmpi_sgt_word {a b : ℕ} (ha : a < 2 ^ 31) (hb : b < 2 ^ 31) :
    IntOp.cmpi .sgt (BitVec.ofNat 32 a) (BitVec.ofNat 32 b) = if b < a then 1#1 else 0#1 := by
  show BitVec.ofBool ((BitVec.ofNat 32 b).slt (BitVec.ofNat 32 a)) = _
  rw [slt_word hb ha]
  by_cases h : b < a <;> simp [h]

/-- The less-than test of two numbers' words. -/
theorem cmpi_slt_word {a b : ℕ} (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  rw [slt_word ha hb]
  by_cases h : a < b <;> simp [h]

/-- A test's bit, widened and read as a number: one or zero. -/
theorem sitofp_test (p : Prop) [Decidable p] :
    (FloatOps.sitofp .f32 (BitVec.setWidth 32 (if p then 1#1 else 0#1)) : Ideal .f32) = if p then (1 : EReal) else 0 := by
  show (((BitVec.setWidth 32 (if p then 1#1 else 0#1)).toInt : ℝ) : EReal) = _
  split <;> simp

/-- How many indices satisfy a condition, summed in the extended reals. -/
theorem sum_test {N : ℕ} (p : Fin N → Prop) [DecidablePred p] :
    (∑ x, if p x then (1 : EReal) else 0) = ((∑ x, if p x then 1 else 0 : ℕ) : EReal) := by
  rw [Nat.cast_sum]
  refine Finset.sum_congr rfl fun x _ => ?_
  split <;> simp

/-- The indices below `p` whose choice is `e`, among the first `N`: the count of the first `p` choices. -/
theorem sum_lt_test (T : ℕ → ℕ) {N : ℕ} (p e : ℕ) (hp : p ≤ N) :
    (∑ x : Fin N, if x.val < p ∧ T x.val = e then 1 else 0) = hits T p e := by
  rw [Fin.sum_univ_eq_sum_range (fun i => if i < p ∧ T i = e then 1 else 0) N]
  unfold hits
  rw [← Finset.sum_subset (Finset.range_subset_range.2 hp)]
  · exact Finset.sum_congr rfl fun i hi => if_congr (and_iff_right (Finset.mem_range.1 hi)) rfl rfl
  · intro i _ hi
    exact if_neg fun h => hi (Finset.mem_range.2 h.1)

/-- A count is below another in the extended reals exactly when it is. -/
theorem cast_lt (a b : ℕ) : ((a : ℕ) : EReal) < ((b : ℕ) : EReal) ↔ a < b := by
  rw [← EReal.coe_natCast, ← EReal.coe_natCast, EReal.coe_lt_coe_iff, Nat.cast_lt]

/-- The truncation of a count below 2^31 is its word. -/
theorem fptosi_count {a : ℕ} (ha : a < 2 ^ 31) : (FloatOps.fptosi (F := Ideal) (φ := .f32) 32 (((a : ℕ) : EReal)) : BitVec 32) = BitVec.ofNat 32 a := by
  show Ideal.fptosi 32 ((a : ℕ) : EReal) = _
  rw [← EReal.coe_natCast, Ideal.fptosi, Ideal.toIntClamped_coe, if_pos (Nat.cast_nonneg a), Int.floor_natCast]
  rw [min_eq_right (by omega), max_eq_right (by omega), BitVec.ofInt_natCast]

/-- The signed least of finitely many small words, as numbers. -/
theorem toNat_fold_minsi {ι : Type} (s : Finset ι) (b : BitVec 32) (g : ι → BitVec 32) (hb : b.toNat < 2 ^ 31)
    (hg : ∀ i, (g i).toNat < 2 ^ 31) :
    (s.fold IntOp.minsi b g).toNat = s.fold min b.toNat (fun i => (g i).toNat) ∧ (s.fold IntOp.minsi b g).toNat < 2 ^ 31 := by
  classical
  induction s using Finset.induction with
  | empty => exact ⟨rfl, hb⟩
  | insert i s hi ih =>
    rw [Finset.fold_insert hi, Finset.fold_insert hi, WordArith.toNat_minsi_of_lt _ _ (hg i) ih.2, ih.1]
    exact ⟨rfl, lt_of_le_of_lt (min_le_left _ _) (hg i)⟩

/-- The least column that holds the row's greatest score, taken as the signed least of the candidates' words, is the
    chosen expert. -/
theorem fold_minsi_top (r : Fin 8 → EReal) (g : Fin 8 → BitVec 32)
    (hg : ∀ e, g e = if r e = rowMax r then BitVec.ofNat 32 e.val else 8#32) :
    (Finset.univ.fold IntOp.minsi 2147483647#32 g) = BitVec.ofNat 32 (top r).val := by
  have hn : ∀ e, (g e).toNat = if r e = rowMax r then e.val else 8 := fun e => by
    rw [hg]; split
    · exact toNat_word (by omega)
    · rfl
  have h := (toNat_fold_minsi Finset.univ 2147483647#32 g (by decide) fun e => by
    rw [hn]; have := e.isLt; split <;> omega).1
  apply BitVec.eq_of_toNat_eq
  rw [h, show (BitVec.ofNat 32 (top r).val).toNat = (top r).val from toNat_word (by omega)]
  apply le_antisymm
  · exact (Finset.fold_min_le _).2 (Or.inr ⟨top r, Finset.mem_univ _, by rw [hn, if_pos (top_eq r)]⟩)
  · refine (Finset.le_fold_min _).2 ⟨?_, fun e _ => ?_⟩
    · have := (top r).isLt
      show _ ≤ 2147483647
      omega
    · rw [hn]; split
      · rename_i he; exact top_le r e he
      · have := (top r).isLt; omega

/-- The word that holds place `q`: its number shifted down by five. -/
theorem shrsi_word {q : ℕ} (hq : q < 5120) :
    IntOp.shrsi .vector (BitVec.ofNat 32 q) 5#32 = BitVec.ofNat 32 (q / 32) := by
  have : ∀ q : Fin 5120, IntOp.shrsi .vector (BitVec.ofNat 32 q.val) 5#32 = BitVec.ofNat 32 (q.val / 32) := by decide +kernel
  exact this ⟨q, hq⟩

/-- The bit of that word: one, shifted up by the place number's low five bits. -/
theorem shli_word {q : ℕ} (hq : q < 5120) :
    IntOp.shli .vector 1#32 (IntOp.andi (BitVec.ofNat 32 q) 31#32) = 1#32 <<< (q % 32) := by
  have : ∀ q : Fin 5120, IntOp.shli .vector 1#32 (IntOp.andi (BitVec.ofNat 32 q.val) 31#32) = 1#32 <<< (q.val % 32) := by
    decide +kernel
  exact this ⟨q, hq⟩

/-- Bit `b` of the word whose one bit is `k`. -/
theorem bit_of_shift (k b : Fin 32) :
    IntOp.cmpi .ne (IntOp.andi (IntOp.shrsi .host (1#32 <<< k.val) (BitVec.ofNat 32 b.val)) 1#32) 0#32
      = if b = k then 1#1 else 0#1 := by
  revert k b; decide +kernel

/-- Every bit of the zero word is zero. -/
theorem bit_of_zero (b : Fin 32) :
    IntOp.cmpi .ne (IntOp.andi (IntOp.shrsi .host 0#32 (BitVec.ofNat 32 b.val)) 1#32) 0#32 = 0#1 := by
  revert b; decide +kernel

end Cert.Router
-- ==== Proof.Payloads.lean ====
/-
  WHAT ONE BLOCK OF THE KERNEL COMPUTES, from its 256 rows of scores and the counts carried in from the blocks before it: per
  row the softmax weights, the chosen expert and the number of earlier rows with that choice; from these the row of 5120
  places that holds the weight at one place, the row of 160 words that holds one bit, and the counts carried out.
-/
module

public import proofs.«01_k».proof.Proof.Words
public import proofs.«01_k».proof.Proof.Gen.KernelIdeal.Skeleton

@[expose] public section

set_option maxRecDepth 16384

noncomputable section

namespace Cert.Router

open Idealize.ShloMosaic Idealize.ShloMosaic.TcCoe Idealize.SL.Sem
open Cert.KernelIdeal Cert.KernelIdeal.Gen

/-- The scores of row `p` of a block. -/
abbrev row (v3 : Vec Ideal S256x8 .f32) (p : Fin 256) : Fin 8 → EReal := fun e => v3 (ix2 p e)

/-- The capacity constant is 640. -/
theorem cap_eq : (Scalar.ofBits .f32 0x44200000#32 : Ideal .f32) = ((640 : ℕ) : EReal) := by
  show Ideal.ofBits .f32 0x44200000#32 = _
  rw [← EReal.coe_natCast]
  simp [Ideal.ofBits, Ideal.ieee, -EReal.coe_mul]
  norm_num

/-- The counts carried into the first block are zero. -/
theorem pay1_eq (e : Fin 8) : (k0_pay1 (F := Ideal)) (ix2 0 e) = ((0 : ℕ) : EReal) := by
  rw [Nat.cast_zero]
  pointwise [k0_pay1]

/-- The row's greatest score. -/
theorem pay2_eq (v3 : Vec Ideal S256x8 .f32) (p : Fin 256) : k0_pay2 v3 (ix2 p 0) = rowMax (row v3 p) := by
  have hb : Ideal.ofBits .f32 4286578688#32 = ⊥ := by simp [Ideal.ofBits, Ideal.ieee]
  pointwise [k0_pay2]
  rw [hb]; rfl

/-- The row's softmax weights. -/
theorem pay3_eq (v3 : Vec Ideal S256x8 .f32) (p : Fin 256) (e : Fin 8) : k0_pay3 v3 (ix2 p e) = soft (row v3 p) e := by
  pointwise [k0_pay3]
  rw [pay2_eq]; rfl

/-- The row's chosen expert. -/
theorem pay4_eq (v3 : Vec Ideal S256x8 .f32) (p : Fin 256) :
    k0_pay4 v3 (ix2 p 0) = BitVec.ofNat 32 (top (row v3 p)).val := by
  pointwise [k0_pay4]
  rw [pay2_eq]
  exact fold_minsi_top (row v3 p) _ fun e => rfl

/-- One at the chosen expert, zero at the others. -/
theorem pay5_eq (v3 : Vec Ideal S256x8 .f32) (p : Fin 256) (e : Fin 8) :
    k0_pay5 v3 (ix2 p e) = if (top (row v3 p)).val = e.val then (1 : EReal) else 0 := by
  pointwise [k0_pay5]
  rw [pay4_eq, cmpi_eq_word (by omega) (by omega), sitofp_test]
  exact if_congr eq_comm rfl rfl

/-- The number of earlier rows that chose expert `e`: those of the blocks before (`C e`) and those of this block above `p`. -/
theorem pay6_eq (v3 : Vec Ideal S256x8 .f32) (v30 : Vec Ideal S1x8 .f32) (T : ℕ → ℕ) (C : ℕ → ℕ)
    (hT : ∀ p : Fin 256, (top (row v3 p)).val = T p.val) (hC : ∀ e : Fin 8, v30 (ix2 0 e) = ((C e.val : ℕ) : EReal))
    (p : Fin 256) (e : Fin 8) : k0_pay6 v3 v30 (ix2 p e) = ((C e.val + hits T p.val e.val : ℕ) : EReal) := by
  pointwise [k0_pay6]
  rw [hC, add_comm (C e.val), Nat.cast_add, ← sum_lt_test T p.val e.val p.isLt.le, ← sum_test fun x : Fin 256 => x.val < p.val ∧ T x.val = e.val]
  congr 1
  refine Finset.sum_congr rfl fun x _ => ?_
  rw [pay5_eq, cmpi_sgt_word (by omega) (by omega), sitofp_test, hT]
  by_cases h1 : x.val < p.val <;> by_cases h2 : T x.val = e.val <;> simp [h1, h2]

/-- The counts carried out: the ones carried in and this block's choices. -/
theorem pay7_eq (v3 : Vec Ideal S256x8 .f32) (v33 : Vec Ideal S1x8 .f32) (T : ℕ → ℕ) (C : ℕ → ℕ)
    (hT : ∀ p : Fin 256, (top (row v3 p)).val = T p.val) (hC : ∀ e : Fin 8, v33 (ix2 0 e) = ((C e.val : ℕ) : EReal))
    (e : Fin 8) : k0_pay7 v3 v33 (ix2 0 e) = ((C e.val + hits T 256 e.val : ℕ) : EReal) := by
  pointwise [k0_pay7]
  rw [hC, Nat.cast_add, ← sum_lt_test T (N := 256) 256 e.val le_rfl, ← sum_test fun x : Fin 256 => x.val < 256 ∧ T x.val = e.val]
  congr 1
  refine Finset.sum_congr rfl fun x _ => ?_
  rw [pay5_eq, hT]
  exact if_congr (and_iff_right x.isLt).symm rfl rfl

section Place

variable (v3 : Vec Ideal S256x8 .f32) (v32 : FVec Ideal S256x8 .f32) (R : Fin 256 → ℕ)

/-- One at the chosen expert of a row whose number is below the capacity, zero elsewhere. -/
theorem pay8_eq (hR : ∀ p : Fin 256, v32 (ix2 p (top (row v3 p))) = ((R p : ℕ) : EReal)) (p : Fin 256) (e : Fin 8) :
    k0_pay8 (k0_pay5 v3) v32 (Scalar.ofBits .f32 0x44200000#32) (ix2 p e)
      = if R p < 640 ∧ e = top (row v3 p) then (1 : EReal) else 0 := by
  have hc : Ideal.ofBits .f32 1142947840#32 = ((640 : ℕ) : EReal) := cap_eq
  pointwise [k0_pay8]
  rw [pay5_eq, hc]
  by_cases he : e = top (row v3 p)
  · subst he
    have hb : BitVec.ofBool (decide (((R p : ℕ) : EReal) < ((640 : ℕ) : EReal))) = if R p < 640 then 1#1 else 0#1 := by
      by_cases h : R p < 640
      · rw [if_pos h, decide_eq_true ((cast_lt _ _).2 h)]; rfl
      · rw [if_neg h, decide_eq_false fun h' => h ((cast_lt _ _).1 h')]; rfl
    rw [if_pos rfl, one_mul, hR, hb, sitofp_test]
    exact if_congr (and_iff_left rfl).symm rfl rfl
  · rw [if_neg fun h => he (Fin.ext h.symm), zero_mul, if_neg fun h => he h.2]

/-- A sum against that indicator is its term at the chosen expert, or zero past the capacity. -/
theorem sum_pay8 (hR : ∀ p : Fin 256, v32 (ix2 p (top (row v3 p))) = ((R p : ℕ) : EReal)) (p : Fin 256) (f : Fin 8 → EReal) :
    (∑ x, f x * k0_pay8 (k0_pay5 v3) v32 (Scalar.ofBits .f32 0x44200000#32) (ix2 p x))
      = if R p < 640 then f (top (row v3 p)) else 0 := by
  rw [Finset.sum_eq_single (top (row v3 p))]
  · rw [pay8_eq v3 v32 R hR]
    by_cases h : R p < 640 <;> simp [h]
  · intro x _ hx
    rw [pay8_eq v3 v32 R hR, if_neg fun h => hx h.2, mul_zero]
  · intro h; exact absurd (Finset.mem_univ _) h

/-- The row's place number: 640 per expert and the row's number among those, or the all-ones word past the capacity. -/
theorem pay9_eq (hR : ∀ p : Fin 256, v32 (ix2 p (top (row v3 p))) = ((R p : ℕ) : EReal)) (p : Fin 256) :
    k0_pay9 (k0_pay4 v3) (k0_pay5 v3) v32 (Scalar.ofBits .f32 0x44200000#32) (ix2 p 0)
      = if R p < 640 then BitVec.ofNat 32 (640 * (top (row v3 p)).val + R p) else 4294967295#32 := by
  have hs : (∑ x, k0_pay8 (k0_pay5 v3) v32 (Scalar.ofBits .f32 0x44200000#32) (ix2 p x)) = if R p < 640 then (1 : EReal) else 0 := by
    have := sum_pay8 v3 v32 R hR p fun _ => 1
    simpa only [one_mul] using this
  have hs2 := sum_pay8 v3 v32 R hR p fun x => v32 (ix2 p x)
  pointwise [k0_pay9]
  by_cases h : R p < 640
  · rw [if_pos h] at hs hs2 ⊢
    rw [if_pos (by rw [show (∑ x, k0_pay8 (k0_pay5 v3) v32 (Ideal.ofBits .f32 1142947840#32) (ix2 p x)) = 1 from hs]; exact zero_lt_one)]
    rw [show (∑ x, v32 (ix2 p x) * k0_pay8 (k0_pay5 v3) v32 (Ideal.ofBits .f32 1142947840#32) (ix2 p x)) = _ from hs2, hR,
      fptosi_count (by omega), pay4_eq]
    show BitVec.ofNat 32 _ * BitVec.ofNat 32 640 + BitVec.ofNat 32 _ = _
    rw [← BitVec.ofNat_mul, ← BitVec.ofNat_add, Nat.mul_comm]
  · rw [if_neg h] at hs ⊢
    rw [if_neg (by rw [show (∑ x, k0_pay8 (k0_pay5 v3) v32 (Ideal.ofBits .f32 1142947840#32) (ix2 p x)) = 0 from hs]; exact lt_irrefl _)]

/-- The block's row of places: the row's weight at its place, zero elsewhere. -/
theorem pay10_eq (hR : ∀ p : Fin 256, v32 (ix2 p (top (row v3 p))) = ((R p : ℕ) : EReal)) (p : Fin 256) (q : Fin 5120) :
    k0_pay10 (k0_pay3 v3) (k0_pay4 v3) (k0_pay5 v3) v32 (Scalar.ofBits .f32 0x44200000#32) (ix2 p q)
      = if R p < 640 ∧ q.val = 640 * (top (row v3 p)).val + R p then soft (row v3 p) (top (row v3 p)) else 0 := by
  have h9 := pay9_eq v3 v32 R hR p
  have hs := sum_pay8 v3 v32 R hR p fun x => k0_pay3 v3 (ix2 p x)
  have ht := (top (row v3 p)).isLt
  pointwise [k0_pay10]
  rw [show k0_pay9 (k0_pay4 v3) (k0_pay5 v3) v32 (Ideal.ofBits .f32 1142947840#32) (ix2 p 0) = _ from h9,
    show (∑ x, k0_pay3 v3 (ix2 p x) * k0_pay8 (k0_pay5 v3) v32 (Ideal.ofBits .f32 1142947840#32) (ix2 p x)) = _ from hs]
  by_cases h : R p < 640
  · rw [if_pos h, if_pos h, cmpi_eq_word (by omega) (by omega), pay3_eq]
    by_cases hq : q.val = 640 * (top (row v3 p)).val + R p <;> simp [h, hq, Scalar.select]
  · rw [if_neg h, if_neg h, if_neg fun h' => h h'.1]
    simp [Scalar.select]

/-- The block's row of words: the bit of the row's place, zero elsewhere. -/
theorem pay11_eq (hR : ∀ p : Fin 256, v32 (ix2 p (top (row v3 p))) = ((R p : ℕ) : EReal)) (p : Fin 256) (w : Fin 160) :
    k0_pay11 (k0_pay4 v3) (k0_pay5 v3) v32 (Scalar.ofBits .f32 0x44200000#32) (ix2 p w)
      = if R p < 640 ∧ w.val = (640 * (top (row v3 p)).val + R p) / 32
          then 1#32 <<< ((640 * (top (row v3 p)).val + R p) % 32) else 0#32 := by
  have h9 := pay9_eq v3 v32 R hR p
  have ht := (top (row v3 p)).isLt
  pointwise [k0_pay11]
  rw [show k0_pay9 (k0_pay4 v3) (k0_pay5 v3) v32 (Ideal.ofBits .f32 1142947840#32) (ix2 p 0) = _ from h9]
  by_cases h : R p < 640
  · rw [if_pos h, shrsi_word (by omega), shli_word (by omega), cmpi_eq_word (by omega) (by omega)]
    by_cases hq : w.val = (640 * (top (row v3 p)).val + R p) / 32 <;> simp [h, hq, Scalar.select]
  · rw [if_neg h, if_neg fun h' => h h'.1]
    have hw : ∀ w : Fin 160, IntOp.cmpi .eq (BitVec.ofNat 32 w.val) (IntOp.shrsi .vector 4294967295#32 5#32) = 0#1 := by
      decide +kernel
    rw [hw]; rfl

end Place

end Cert.Router
-- ==== Proof.Blocks.lean ====
/-
  WHAT EACH BLOCK LEAVES, point by point of the grid: the payloads over the block's 256 rows and the counts the point before
  left; and, by induction over the points, that those counts are the number of earlier rows per expert.
-/
module

public import proofs.«01_k».proof.Proof.Payloads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Router

open Idealize.ShloMosaic Idealize.ShloMosaic.TcCoe Idealize.SL.Sem
open Cert.KernelIdeal Cert.KernelIdeal.Gen

variable (m : (ℓ : Loc nD τ sig) → Buf (Elt Ideal) ℓ)

/-- The capacity constant. -/
abbrev cap : Ideal .f32 := Scalar.ofBits .f32 0x44200000#32

/-- A block's two outputs and the counts it carries out, from its scores and the counts carried in. -/
def step (v3 : Vec Ideal S256x8 .f32) (v30 : Vec Ideal S1x8 .f32) :
    Vec Ideal S256x5120 .f32 × Vec Ideal S256x160 .i32 × Vec Ideal S1x8 .f32 :=
  (k0_pay10 (k0_pay3 v3) (k0_pay4 v3) (k0_pay5 v3) (k0_pay6 v3 v30) cap,
   k0_pay11 (k0_pay4 v3) (k0_pay5 v3) (k0_pay6 v3 v30) cap, k0_pay7 v3 v30)

/-- The first block starts from the counts it has just set to zero. -/
theorem outs_A (c : Dev nD) (t : Fin cfg0.N) (h0 : t.val % 16 = 0) :
    outsAt0 m c t.val t.isLt = step (iblk m c 0 t) (k0_pay1 (F := Ideal)) := by
  rw [outsAt0_A m c t h0]
  unfold step
  refine Prod.ext ?_ (Prod.ext ?_ ?_)
  · frame_out
  · frame_out
  · frame_out

/-- Every later block starts from the counts the block before left. -/
theorem outs_B (c : Dev nD) (t : Fin cfg0.N) (h0 : ¬t.val % 16 = 0) :
    outsAt0 m c t.val t.isLt
      = step (iblk m c 0 t) (outsAt0 m c (t.val - 1) (Nat.lt_of_le_of_lt (Nat.sub_le _ _) t.isLt)).2.2 := by
  rw [outsAt0_B m c t h0]
  unfold step
  refine Prod.ext ?_ (Prod.ext ?_ ?_)
  · frame_out
    all_goals simp only [read_unread_whole]
  · frame_out
    all_goals simp only [read_unread_whole]
  · frame_out
    all_goals simp only [read_unread_whole]

/-- The argument's rows of scores. -/
def scores (c : Dev nD) : Fin 4096 → Fin 8 → EReal := fun n e => m ((c.tc : Thread nD τ).loc main_arg0) (ix2 n e)

/-- Where each window's block sits at each point: block `t` of rows. -/
theorem idx : ∀ t : Fin cfg0.N, win0_0.index t = ![t.val, 0] ∧ win0_1.index t = ![t.val, 0] ∧ win0_2.index t = ![t.val, 0] :=
  (by decide +kernel : ∀ t : Fin grid0.N, _)

/-- Row `p` of block `t` is row `256 t + p` of the argument. -/
theorem lt_rows (t : Fin cfg0.N) (p : Fin 256) : 256 * t.val + p.val < 4096 := by
  have : t.val < 16 := t.isLt
  omega

/-- The scores block `t` reads. -/
theorem iblk_row (c : Dev nD) (t : Fin cfg0.N) (p : Fin 256) : row (iblk m c 0 t) p = scores m c ⟨256 * t.val + p.val, lt_rows t p⟩ := by
  funext e
  show iblk m c 0 t (ix2 p e) = m ((c.tc : Thread nD τ).loc main_arg0) (ix2 _ e)
  blk_ext [iblk, V, idx t]

/-- The choices of block `t`. -/
theorem block_choice (c : Dev nD) (t : Fin cfg0.N) (p : Fin 256) :
    (top (row (iblk m c 0 t) p)).val = choice (scores m c) (256 * t.val + p.val) := by
  rw [iblk_row]; exact (choice_fin (scores m c) ⟨_, lt_rows t p⟩).symm

/-- The counts after point `n` are the choices of the first `256 (n + 1)` rows, per expert. -/
theorem counts_eq (c : Dev nD) : ∀ (n : ℕ) (h : n < cfg0.N) (e : Fin 8),
    (outsAt0 m c n h).2.2 (ix2 0 e) = ((hits (choice (scores m c)) (256 * (n + 1)) e.val : ℕ) : EReal)
  | 0, h, e => by
    rw [outs_A m c ⟨0, h⟩ rfl]
    refine (pay7_eq _ _ (fun i => choice (scores m c) (256 * 0 + i)) (fun _ => 0) (block_choice m c ⟨0, h⟩) pay1_eq e).trans ?_
    simp only [Nat.mul_zero, Nat.zero_add, Nat.mul_one]
  | n + 1, h, e => by
    have hB : ¬(n + 1) % 16 = 0 := by
      have : n + 1 < 16 := h
      omega
    rw [outs_B m c ⟨n + 1, h⟩ hB]
    refine (pay7_eq _ _ (fun i => choice (scores m c) (256 * (n + 1) + i)) (hits (choice (scores m c)) (256 * (n + 1)))
      (block_choice m c ⟨n + 1, h⟩) (counts_eq c n (Nat.lt_of_succ_lt h)) e).trans ?_
    rw [← hits_add]; rfl

/-- Every block is `step` of its scores and the counts of all earlier rows. -/
theorem outs_step (c : Dev nD) (t : Fin cfg0.N) : ∃ v30 : Vec Ideal S1x8 .f32,
    (∀ e : Fin 8, v30 (ix2 0 e) = ((hits (choice (scores m c)) (256 * t.val) e.val : ℕ) : EReal))
      ∧ outsAt0 m c t.val t.isLt = step (iblk m c 0 t) v30 := by
  have ht : t.val < 16 := t.isLt
  by_cases h0 : t.val % 16 = 0
  · refine ⟨_, fun e => ?_, outs_A m c t h0⟩
    rw [show t.val = 0 by omega]
    exact pay1_eq e
  · refine ⟨_, fun e => ?_, outs_B m c t h0⟩
    rw [counts_eq, show t.val - 1 + 1 = t.val by omega]

/-- The number of earlier rows with the row's choice, as the block computes it. -/
theorem block_rank (c : Dev nD) (t : Fin cfg0.N) (v30 : Vec Ideal S1x8 .f32)
    (hv : ∀ e : Fin 8, v30 (ix2 0 e) = ((hits (choice (scores m c)) (256 * t.val) e.val : ℕ) : EReal)) (p : Fin 256) :
    k0_pay6 (iblk m c 0 t) v30 (ix2 p (top (row (iblk m c 0 t) p))) = ((rank (scores m c) (256 * t.val + p.val) : ℕ) : EReal) := by
  rw [pay6_eq _ _ (fun i => choice (scores m c) (256 * t.val + i)) _ (block_choice m c t) hv, ← hits_add, block_choice]
  rfl

/-- What the array of places holds at row `n`, place `q`. -/
def placeAt (x : Fin 4096 → Fin 8 → EReal) (n : Fin 4096) (q : ℕ) : EReal :=
  if rank x n.val < 640 ∧ q = 640 * choice x n.val + rank x n.val then soft (x n) (top (x n)) else 0

/-- What the array of packed bits holds at row `n`, word `w`. -/
def wordAt (x : Fin 4096 → Fin 8 → EReal) (n : Fin 4096) (w : ℕ) : BitVec 32 :=
  if rank x n.val < 640 ∧ w = (640 * choice x n.val + rank x n.val) / 32
    then 1#32 <<< ((640 * choice x n.val + rank x n.val) % 32) else 0#32

/-- Block `t`'s rows of places. -/
theorem block_places (c : Dev nD) (t : Fin cfg0.N) (p : Fin 256) (q : Fin 5120) :
    (outsAt0 m c t.val t.isLt).1 (ix2 p q) = placeAt (scores m c) ⟨256 * t.val + p.val, lt_rows t p⟩ q.val := by
  obtain ⟨v30, hv, h⟩ := outs_step m c t
  rw [h]
  refine (pay10_eq _ _ _ (block_rank m c t v30 hv) p q).trans ?_
  rw [block_choice, iblk_row]; rfl

/-- Block `t`'s rows of words. -/
theorem block_words (c : Dev nD) (t : Fin cfg0.N) (p : Fin 256) (w : Fin 160) :
    (outsAt0 m c t.val t.isLt).2.1 (ix2 p w) = wordAt (scores m c) ⟨256 * t.val + p.val, lt_rows t p⟩ w.val := by
  obtain ⟨v30, hv, h⟩ := outs_step m c t
  rw [h]
  refine (pay11_eq _ _ _ (block_rank m c t v30 hv) p w).trans ?_
  rw [block_choice]; rfl

/-- The array of places after the last point. -/
theorem places_final (c : Dev nD) (n : Fin 4096) (q : Fin 5120) :
    (dats m 0 c).arrAt 1 cfg0.N (ix2 n q) = placeAt (scores m c) n q.val := by
  have := (dats m 0 c).arrAt_eq_of_covers 1 (fun j : S4096x5120.Idx => placeAt (scores m c) ⟨(j 0).val, (j 0).isLt⟩ (j 1).val)
    (by decide +kernel) fun t hf y => ?_
  · rw [this]; rfl
  · blk_simp
    rw [after0_1]
    idx_vars y
    refine (block_places m c t y0 y1).trans ?_
    congr 1 <;> simp [(idx t).2.1, Nat.mul_comm]

/-- The array of words after the last point. -/
theorem words_final (c : Dev nD) (n : Fin 4096) (w : Fin 160) :
    (dats m 0 c).arrAt 2 cfg0.N (ix2 n w) = wordAt (scores m c) n w.val := by
  have := (dats m 0 c).arrAt_eq_of_covers 2 (fun j : S4096x160.Idx => wordAt (scores m c) ⟨(j 0).val, (j 0).isLt⟩ (j 1).val)
    (by decide +kernel) fun t hf y => ?_
  · rw [this]; rfl
  · blk_simp
    rw [after0_2]
    idx_vars y
    refine (block_words m c t y0 y1).trans ?_
    congr 1 <;> simp [(idx t).2.2, Nat.mul_comm]

end Cert.Router
-- ==== Proof.Tail.lean ====
/-
  THE KERNEL'S TWO RESULTS. After the grid the host reshapes the array of places to (row, expert, place) and unpacks the
  array of words to one bit per place; with what those arrays hold, the results are `combine` and `mask` of the argument.
-/
module

public import proofs.«01_k».proof.Proof.Blocks
public import Idealize.ShloMosaic.Lib.Claim

@[expose] public section

set_option maxRecDepth 16384

noncomputable section

namespace Cert.Router

open Idealize.ShloMosaic Idealize.ShloMosaic.TcCoe Idealize.SL.Sem
open Cert.KernelIdeal Cert.KernelIdeal.Gen

/-- The first result from the array of places. -/
def unflat (A : FVec Ideal S4096x5120 .f32) : FVec Ideal S4096x8x640 .f32 :=
  shapeCast S4096x8x640 A shapeCasts_S4096x5120_S4096x8x640

/-- The second result from the array of words. -/
def unpack (B : IVec S4096x160 32) : IVec S4096x8x640 1 :=
  shapeCast S4096x8x640
    (cmpi .ne
      (andi
        (Host.shrsi
          (broadcastInDim S4096x160x32 ![0, 1, 2] bcast_S4096x160x1_S4096x160x32_0_1_2
            (broadcastInDim S4096x160x1 ![0, 1] bcast_S4096x160_S4096x160x1_0_1 B))
          (broadcastInDim S4096x160x32 ![0, 1, 2] bcast_S1x1x32_S4096x160x32_0_1_2
            (broadcastInDim S1x1x32 ![2] bcast_S32_S1x1x32_2 (iotaInDim S32 32 0))))
        (broadcastInDim S4096x160x32 ![] bcast_S_S4096x160x32 (constantI S_ 32 1#32)))
      (broadcastInDim S4096x160x32 ![] bcast_S_S4096x160x32 (constantI S_ 32 0#32)))
    shapeCasts_S4096x160x32_S4096x8x640

/-- The first result at (row, expert, place): place `640 e + c` of the row. -/
theorem unflat_eq (A : FVec Ideal S4096x5120 .f32) (n : Fin 4096) (e : Fin 8) (c : Fin 640) :
    unflat A (ix3 n e c) = A (ix2 n ⟨e.val * 640 + c.val, by omega⟩) := by
  pointwise [unflat]

/-- The second result at (row, expert, place): bit `c % 32` of the row's word `20 e + c / 32`. -/
theorem unpack_eq (B : IVec S4096x160 32) (n : Fin 4096) (e : Fin 8) (c : Fin 640) :
    unpack B (ix3 n e c)
      = IntOp.cmpi .ne (IntOp.andi (IntOp.shrsi .host (B (ix2 n ⟨e.val * 20 + c.val / 32, by omega⟩))
          (BitVec.ofNat 32 (c.val % 32))) 1#32) 0#32 := by
  pointwise [unpack]

/-- The array of places, reshaped, is `combine`. -/
theorem placeAt_eq (x : Fin 4096 → Fin 8 → EReal) (n : Fin 4096) (e : Fin 8) (c : Fin 640) :
    placeAt x n (e.val * 640 + c.val) = combine x n e c := by
  unfold placeAt combine At
  have := choice_lt x n.val
  exact if_congr (by omega) rfl rfl

/-- The array of words, unpacked, is `mask`. -/
theorem wordAt_eq (x : Fin 4096 → Fin 8 → EReal) (n : Fin 4096) (e : Fin 8) (c : Fin 640) :
    IntOp.cmpi .ne (IntOp.andi (IntOp.shrsi .host (wordAt x n (e.val * 20 + c.val / 32)) (BitVec.ofNat 32 (c.val % 32))) 1#32) 0#32
      = mask x n e c := by
  unfold wordAt mask At
  have := choice_lt x n.val
  by_cases h : rank x n.val < 640 ∧ e.val * 20 + c.val / 32 = (640 * choice x n.val + rank x n.val) / 32
  · rw [if_pos h]
    refine (bit_of_shift ⟨(640 * choice x n.val + rank x n.val) % 32, by omega⟩ ⟨c.val % 32, by omega⟩).trans ?_
    refine if_congr ?_ rfl rfl
    rw [Fin.mk.injEq]
    omega
  · rw [if_neg h]
    refine (bit_of_zero ⟨c.val % 32, by omega⟩).trans (if_neg ?_).symm
    show ¬(choice x n.val = e.val ∧ rank x n.val = c.val)
    omega

section Run

variable (m : (ℓ : Loc nD τ sig) → Buf (Elt Ideal) ℓ) (c : Dev nD)

set_option maxHeartbeats 1600000 in
/-- The first result is the array of places, reshaped. -/
theorem tail_places :
    Pipeline.afterTail₀ cfgs (dats m) 0 (V0 m) [hostOps1] c main_v11 = unflat ((dats m 0 c).arrAt 1 cfg0.N) := by
  unfold Pipeline.afterTail₀
  simp only [List.flatten_cons, List.flatten_nil, List.append_nil]
  simp only [StableHlo.after_cons, StableHlo.after_nil]
  after_results_simp
  have h := Pipeline.withArrays_arr (cfgs 0).spec launch0.win.arr_inj c (V0 m c) (fun w => (dats m 0 c).arrAt w (cfgs 0).N) 1
  exact congrArg unflat h

set_option maxHeartbeats 1600000 in
/-- The second result is the array of words, unpacked. -/
theorem tail_words :
    Pipeline.afterTail₀ cfgs (dats m) 0 (V0 m) [hostOps1] c main_v12 = unpack ((dats m 0 c).arrAt 2 cfg0.N) := by
  unfold Pipeline.afterTail₀
  simp only [List.flatten_cons, List.flatten_nil, List.append_nil]
  simp only [StableHlo.after_cons, StableHlo.after_nil]
  after_results_simp
  have h := Pipeline.withArrays_arr (cfgs 0).spec launch0.win.arr_inj c (V0 m c) (fun w => (dats m 0 c).arrAt w (cfgs 0).N) 2
  exact congrArg unpack h

/-- The kernel's first result is `combine` of its argument. -/
theorem kernel_combine (n : Fin 4096) (e : Fin 8) (p : Fin 640) :
    (Pipeline.afterTail₀ cfgs (dats m) 0 (V0 m) [hostOps1] c main_v11 : FVec Ideal S4096x8x640 .f32) (ix3 n e p)
      = combine (scores m c) n e p := by
  rw [tail_places, unflat_eq, places_final]; exact placeAt_eq ..

/-- The kernel's second result is `mask` of its argument. -/
theorem kernel_mask (n : Fin 4096) (e : Fin 8) (p : Fin 640) :
    (Pipeline.afterTail₀ cfgs (dats m) 0 (V0 m) [hostOps1] c main_v12 : IVec S4096x8x640 1) (ix3 n e p)
      = mask (scores m c) n e p := by
  rw [tail_words, unpack_eq, words_final]; exact wordAt_eq ..

end Run

end Cert.Router
-- ==== Proof.Ref.lean ====
/-
  WHAT THE REFERENCE COMPUTES, value by value as its program names them: the softmax weights, the chosen expert (a fold of
  pairs that keeps the greater score and, on equal scores, the smaller column), the one-hot of the choices, its running sum
  over the rows, the rank that gives, the mask of ranks below the capacity, and the two results — which are `combine` and
  `mask` of the argument.
-/
module

public import proofs.«01_k».proof.Proof.Words
public import proofs.«01_k».proof.Proof.Gen.ReferenceIdeal
public import Idealize.ShloMosaic.Lib.Routing.OpsOne

@[expose] public section

set_option maxRecDepth 16384

noncomputable section

namespace Cert.Router

open Idealize.ShloMosaic Idealize.ShloMosaic.TcCoe Idealize.SL.Sem
open Cert.ReferenceIdeal Cert.ReferenceIdeal.Gen

/-! ## The reference's values -/

section Values

variable (x : FVec Ideal S4096x8 .f32)

/-- The rows of scores. -/
def rows (n : Fin 4096) : Fin 8 → EReal := fun e => x (ix2 n e)

/-- The greatest score of each row. -/
def refMax : FVec Ideal S4096 .f32 :=
  maximumf (broadcastInDim S4096 ![] bcast_S_S4096 (constant S_ .f32 0xFF800000#32))
    (Host.reduce FloatOps.maximumf x (constant S_ .f32 0xFF800000#32) reducesTo_S4096x8_S4096_d1 h_S_)

/-- The exponentials of the differences. -/
def refExp : FVec Ideal S4096x8 .f32 :=
  Host.exp (subf x (broadcastInDim S4096x8 ![0, 1] bcast_S4096x1_S4096x8_0_1
    (broadcastInDim S4096x1 ![0] bcast_S4096_S4096x1_0 (refMax x))))

/-- The softmax weights. -/
def refSoft : FVec Ideal S4096x8 .f32 :=
  Host.divf (refExp x) (broadcastInDim S4096x8 ![0, 1] bcast_S4096x1_S4096x8_0_1
    (broadcastInDim S4096x1 ![0] bcast_S4096_S4096x1_0
      (Host.reduceAdd (refExp x) (constant S_ .f32 0x00000000#32) reducesTo_S4096x8_S4096_d1 h_S_)))

/-- The chosen experts. -/
def refArg : IVec S4096 32 := fun j =>
  (Host.argReduce reducer_argmax_f32_i32 x (iotaInDim S4096x8 32 1) (constant S_ .f32 0xFF800000#32) (constantI S_ 32 0#32)
    reducesTo_S4096x8_S4096_d1 h_S_ j).2

/-- The one-hot of the choices. -/
def refHot : IVec S4096x8 32 :=
  extui 32 (cmpi .eq
    (broadcastInDim S4096x8 ![0, 1] bcast_S4096x1_S4096x8_0_1 (broadcastInDim S4096x1 ![0] bcast_S4096_S4096x1_0 (refArg x)))
    (broadcastInDim S4096x8 ![0, 1] bcast_S1x8_S4096x8_0_1 (iotaInDim S1x8 32 1))) natLt_1_32

/-- Its running sum over the rows. -/
def refCum : IVec S4096x8 32 :=
  Host.reduceWindow IntOp.addi ![4096, 1] ![1, 1] ![4095, 0] ![0, 0] (refHot x)
    (broadcastInDim S_ ![] bcast_S_S_ (constantI S_ 32 0#32)) reduceWindows_S4096x8_S4096x8_w4096s1p4095_0_w1s1p0_0 h_S_

/-- The ranks: one less. -/
def refRank : IVec S4096x8 32 :=
  subi (refCum x) (broadcastInDim S4096x8 ![] bcast_S_S4096x8 (constantI S_ 32 1#32))

/-- The choices whose rank is below the capacity. -/
def refMask : IVec S4096x8 32 :=
  muli (refHot x) (extui 32 (cmpi .slt (refRank x) (broadcastInDim S4096x8 ![] bcast_S_S4096x8 (constantI S_ 32 640#32))) natLt_1_32)

/-- Each row's rank at its choice (zero past the capacity). -/
def refPos : IVec S4096 32 :=
  Host.reduce IntOp.addi (muli (refMask x) (refRank x)) (constantI S_ 32 0#32) reducesTo_S4096x8_S4096_d1 h_S_

/-- The one-hot of those ranks. -/
def refPosHot : FVec Ideal S4096x640 .f32 :=
  uitofp .f32 (cmpi .eq
    (broadcastInDim S4096x640 ![0, 1] bcast_S4096x1_S4096x640_0_1 (broadcastInDim S4096x1 ![0] bcast_S4096_S4096x1_0 (refPos x)))
    (broadcastInDim S4096x640 ![0, 1] bcast_S1x640_S4096x640_0_1 (iotaInDim S1x640 32 1)))

/-- The first result. -/
def refCombine : FVec Ideal S4096x8x640 .f32 :=
  mulf
    (broadcastInDim S4096x8x640 ![0, 1, 2] bcast_S4096x8x1_S4096x8x640_0_1_2
      (broadcastInDim S4096x8x1 ![0, 1] bcast_S4096x8_S4096x8x1_0_1 (mulf (sitofp .f32 (refMask x)) (refSoft x))))
    (broadcastInDim S4096x8x640 ![0, 1, 2] bcast_S4096x1x640_S4096x8x640_0_1_2
      (broadcastInDim S4096x1x640 ![0, 2] bcast_S4096x640_S4096x1x640_0_2 (refPosHot x)))

/-- The second result. -/
def refSec : IVec S4096x8x640 1 :=
  cmpf .une (refCombine x) (broadcastInDim S4096x8x640 ![] bcast_S_S4096x8x640 (constant S_ .f32 0x00000000#32))

end Values

/-! ## The fold that chooses -/

/-- One step of the fold: the pair with the greater score, and on equal scores the smaller column. -/
theorem reducer_eq (v w : EReal) {i k : ℕ} (hi : i < 8) (hk : k < 8) :
    reducer_argmax_f32_i32 (F := Ideal) (v, BitVec.ofNat 32 i) (w, BitVec.ofNat 32 k)
      = if w < v then (v, BitVec.ofNat 32 i) else (w, BitVec.ofNat 32 (if v = w ∧ i < k then i else k)) := by
  have hg : ∀ a b : EReal, FloatOps.cmpf (F := Ideal) (φ := .f32) .ogt a b = if b < a then 1#1 else 0#1 := fun a b => by
    show BitVec.ofBool (decide (b < a)) = _
    by_cases h : b < a <;> simp [h]
  have hn : ∀ a : EReal, FloatOps.cmpf (F := Ideal) (φ := .f32) .une a a = 0#1 := fun a => by
    simp [Ideal.cmpf_def, Ideal.cmp]
  have he : ∀ a b : EReal, FloatOps.cmpf (F := Ideal) (φ := .f32) .oeq a b = if a = b then 1#1 else 0#1 := fun a b => by
    show BitVec.ofBool (decide (a = b)) = _
    by_cases h : a = b <;> simp [h]
  unfold reducer_argmax_f32_i32
  simp only [cmpi_slt_word (show i < 2 ^ 31 by omega) (show k < 2 ^ 31 by omega), hg, hn, he]
  by_cases h1 : w < v
  · by_cases h3 : i < k <;> simp [h1, h1.ne', h3, Scalar.select, IntOp.ori, IntOp.andi]
  · by_cases h2 : v = w
    · by_cases h3 : i < k <;> simp [h2, h3, Scalar.select, IntOp.ori, IntOp.andi]
    · by_cases h3 : i < k <;> simp [h1, h2, h3, Scalar.select, IntOp.ori, IntOp.andi]

/-- The fold over any list of scores and columns, from minus infinity and column zero: its score bounds every one, its column
    is the least of those that attain it, and it is one of them — or nothing has been above minus infinity and it is zero. -/
theorem fold_reducer {ι : Type} (X : ι → EReal) (Y : ι → ℕ) (hY : ∀ n, Y n < 8) (L : List ι) :
    ∃ i, i < 8 ∧ (L.foldl (fun r n => reducer_argmax_f32_i32 (F := Ideal) r (X n, BitVec.ofNat 32 (Y n))) ((⊥ : EReal), 0#32)).2 = BitVec.ofNat 32 i
      ∧ (∀ n ∈ L, X n ≤ (L.foldl (fun r n => reducer_argmax_f32_i32 (F := Ideal) r (X n, BitVec.ofNat 32 (Y n))) ((⊥ : EReal), 0#32)).1)
      ∧ (∀ n ∈ L, X n = (L.foldl (fun r n => reducer_argmax_f32_i32 (F := Ideal) r (X n, BitVec.ofNat 32 (Y n))) ((⊥ : EReal), 0#32)).1 → i ≤ Y n)
      ∧ (((L.foldl (fun r n => reducer_argmax_f32_i32 (F := Ideal) r (X n, BitVec.ofNat 32 (Y n))) ((⊥ : EReal), 0#32)).1 = ⊥ ∧ i = 0)
        ∨ ∃ n ∈ L, X n = (L.foldl (fun r n => reducer_argmax_f32_i32 (F := Ideal) r (X n, BitVec.ofNat 32 (Y n))) ((⊥ : EReal), 0#32)).1 ∧ Y n = i) := by
  induction L using List.reverseRecOn with
  | nil => exact ⟨0, by omega, rfl, by simp, by simp, Or.inl ⟨rfl, rfl⟩⟩
  | append_singleton L a ih =>
    simp only [List.foldl_append, List.foldl_cons, List.foldl_nil]
    generalize L.foldl (fun r n => reducer_argmax_f32_i32 (F := Ideal) r (X n, BitVec.ofNat 32 (Y n))) ((⊥ : EReal), 0#32) = r at ih ⊢
    obtain ⟨v, w⟩ := r
    obtain ⟨i, hi, rfl, hle, hmin, hat⟩ := ih
    dsimp only at hle hmin hat
    rw [reducer_eq v (X a) hi (hY a)]
    by_cases h1 : X a < v
    · rw [if_pos h1]
      refine ⟨i, hi, rfl, ?_, ?_, ?_⟩
      · intro n hn
        rcases List.mem_append.1 hn with h | h
        · exact hle n h
        · rw [List.mem_singleton.1 h]; exact h1.le
      · intro n hn hx
        rcases List.mem_append.1 hn with h | h
        · exact hmin n h hx
        · rw [List.mem_singleton.1 h] at hx; exact absurd hx h1.ne
      · exact hat.imp id fun ⟨n, hn, h⟩ => ⟨n, List.mem_append_left _ hn, h⟩
    · rw [if_neg h1]
      have h1' : v ≤ X a := not_lt.1 h1
      have hle' : ∀ n ∈ L ++ [a], X n ≤ X a := fun n hn => by
        rcases List.mem_append.1 hn with h | h
        · exact (hle n h).trans h1'
        · rw [List.mem_singleton.1 h]
      have ha : a ∈ L ++ [a] := List.mem_append_right _ (List.mem_singleton.2 rfl)
      by_cases h2 : v = X a ∧ i < Y a
      · rw [if_pos h2]
        refine ⟨i, hi, rfl, hle', ?_, ?_⟩
        · intro n hn hx
          rcases List.mem_append.1 hn with h | h
          · exact hmin n h (hx.trans h2.1.symm)
          · rw [List.mem_singleton.1 h]; exact h2.2.le
        · rcases hat with ⟨hv, h0⟩ | ⟨n, hn, hx, hy⟩
          · exact Or.inl ⟨h2.1.symm.trans hv, h0⟩
          · exact Or.inr ⟨n, List.mem_append_left _ hn, hx.trans h2.1, hy⟩
      · rw [if_neg h2]
        refine ⟨Y a, hY a, rfl, hle', ?_, Or.inr ⟨a, ha, rfl, rfl⟩⟩
        intro n hn hx
        rcases List.mem_append.1 hn with h | h
        · have hv : v = X a := le_antisymm h1' (le_of_eq_of_le (Eq.symm hx) (hle n h))
          have := hmin n h (hx.trans hv.symm)
          have : ¬i < Y a := fun h' => h2 ⟨hv, h'⟩
          omega
        · rw [List.mem_singleton.1 h]

section Read

variable (x : FVec Ideal S4096x8 .f32)

/-- The reference's choice is the row's first column that holds its greatest score. -/
theorem refArg_eq (n : Fin 4096) : refArg x (ix1 n) = BitVec.ofNat 32 (choice (rows x) n.val) := by
  unfold refArg
  rw [Ideal.argReduce_eq_reduce2]
  unfold Host.reduce2
  have hb : (constant (F := Ideal) S_ .f32 0xFF800000#32) (Shape.Idx.first h_S_) = (⊥ : EReal) := by
    show Ideal.ofBits .f32 4286578688#32 = ⊥
    simp [Ideal.ofBits, Ideal.ieee]
  obtain ⟨i, hi, h2, hle, hmin, hat⟩ := fold_reducer (fun k : Fin S4096x8.numel => x (S4096x8.rowMajor.symm k))
    (fun k => (S4096x8.rowMajor.symm k 1).val) (fun k => (S4096x8.rowMajor.symm k 1).isLt)
    ((List.finRange S4096x8.numel).filter fun k => reducesTo_S4096x8_S4096_d1.drop (S4096x8.rowMajor.symm k) = ix1 n)
  have hmem : ∀ k, k ∈ ((List.finRange S4096x8.numel).filter fun k => reducesTo_S4096x8_S4096_d1.drop (S4096x8.rowMajor.symm k) = ix1 n)
      ↔ ∃ e : Fin 8, ix2 n e = S4096x8.rowMajor.symm k := fun k => by
    rw [List.mem_filter, decide_eq_true_iff, Shape.ReducesTo.fiber_r2_a1]
    exact ⟨fun h => h.2, fun h => ⟨List.mem_finRange k, h⟩⟩
  have hcol : ∀ k (e : Fin 8), ix2 n e = S4096x8.rowMajor.symm k → x (S4096x8.rowMajor.symm k) = rows x n e
      ∧ (S4096x8.rowMajor.symm k 1).val = e.val := fun k e h => by rw [← h]; exact ⟨rfl, rfl⟩
  have hall : ∀ e : Fin 8, ∃ k, k ∈ ((List.finRange S4096x8.numel).filter fun k => reducesTo_S4096x8_S4096_d1.drop (S4096x8.rowMajor.symm k) = ix1 n)
      ∧ x (S4096x8.rowMajor.symm k) = rows x n e ∧ (S4096x8.rowMajor.symm k 1).val = e.val := fun e => by
    refine ⟨S4096x8.rowMajor (ix2 n e), (hmem _).2 ⟨e, (Equiv.symm_apply_apply _ _).symm⟩, hcol _ e (Equiv.symm_apply_apply _ _).symm⟩
  rw [choice_fin, hb]
  refine h2.trans (congrArg (BitVec.ofNat 32) ?_)
  revert hle hmin hat
  generalize (List.foldl _ _ _ : EReal × BitVec 32).1 = v
  intro hle hmin hat
  have hle' : ∀ e, rows x n e ≤ v := fun e => by
    obtain ⟨k, hk, hx, _⟩ := hall e
    exact hx ▸ hle k hk
  have hge : rowMax (rows x n) ≤ v := le_of_eq_of_le (top_eq (rows x n)).symm (hle' _)
  rcases hat with ⟨hv, h0⟩ | ⟨k, hk, hx, hy⟩
  · have : top (rows x n) ≤ 0 := top_le _ _ (by
      have h1 := le_bot_iff.1 (hv ▸ hle' 0)
      have h2 := le_bot_iff.1 (hv ▸ hge)
      rw [h1, h2])
    have := Fin.le_def.1 this
    rw [h0]
    exact (Nat.le_zero.1 this).symm
  · obtain ⟨e, he⟩ := (hmem k).1 hk
    obtain ⟨hxe, hye⟩ := hcol k e he
    have hv : v = rowMax (rows x n) := le_antisymm (by rw [← hx, hxe]; exact le_rowMax _ _) hge
    have h1 : top (rows x n) ≤ e := top_le _ _ (by rw [← hxe, hx, hv])
    obtain ⟨k', hk', hx', hy'⟩ := hall (top (rows x n))
    have h2 := hmin k' hk' ((hx'.trans (top_eq (rows x n))).trans hv.symm)
    rw [hy'] at h2
    have h3 := Fin.le_def.1 h1
    rw [hye] at hy
    omega

/-- The one-hot at a row and an expert. -/
theorem refHot_eq (n : Fin 4096) (e : Fin 8) :
    refHot x (ix2 n e) = BitVec.ofNat 32 (if choice (rows x) n.val = e.val then 1 else 0) := by
  have := choice_lt (rows x) n.val
  pointwise [refHot]
  rw [refArg_eq, cmpi_eq_word (by omega) (by omega)]
  by_cases h : choice (rows x) n.val = e.val <;> simp [h]

/-- The running sum: how many rows up to this one chose the expert. -/
theorem refCum_eq (n : Fin 4096) (e : Fin 8) :
    refCum x (ix2 n e) = BitVec.ofNat 32 (hits (choice (rows x)) (n.val + 1) e.val) := by
  unfold refCum
  refine (Routing.cumsum_rows rfl (refHot x) (fun i c => if choice (rows x) i = c then 1 else 0) (refHot_eq x) _ rfl _ _ n e).trans ?_
  rw [list_sum_eq_hits]

/-- The rank: at a row's own choice, the number of earlier rows with that choice. -/
theorem refRank_eq (n : Fin 4096) (e : Fin 8) (h : choice (rows x) n.val = e.val) :
    refRank x (ix2 n e) = BitVec.ofNat 32 (rank (rows x) n.val) := by
  pointwise [refRank]
  rw [refCum_eq, hits_succ, if_pos h]
  show BitVec.ofNat 32 _ - 1#32 = _
  rw [BitVec.ofNat_add, BitVec.add_sub_cancel]
  unfold rank
  rw [h]

/-- A rank is below the number of rows. -/
theorem rank_lt (n : Fin 4096) : rank (rows x) n.val < 4096 := lt_of_le_of_lt (hits_le _ _ _) n.isLt

/-- The mask: one at a row's choice where its rank is below the capacity. -/
theorem refMask_eq (n : Fin 4096) (e : Fin 8) :
    refMask x (ix2 n e) = if choice (rows x) n.val = e.val ∧ rank (rows x) n.val < 640 then 1#32 else 0#32 := by
  have := rank_lt x n
  pointwise [refMask]
  rw [refHot_eq]
  by_cases h : choice (rows x) n.val = e.val
  · rw [refRank_eq x n e h, cmpi_slt_word (by omega) (by omega)]
    by_cases hr : rank (rows x) n.val < 640 <;> simp [h, hr, IntOp.muli]
  · simp [h, IntOp.muli]

/-- A sum of words with one term that may not be zero is that term. -/
theorem fold_addi_single {ι : Type} [Fintype ι] [DecidableEq ι] {f : ι → BitVec 32} (t : ι) (h : ∀ i, i ≠ t → f i = 0#32) :
    Finset.univ.fold IntOp.addi 0#32 f = f t := by
  have hz : ∀ s : Finset ι, (∀ i ∈ s, f i = 0#32) → s.fold IntOp.addi 0#32 f = 0#32 := by
    intro s
    induction s using Finset.induction with
    | empty => intro _; rfl
    | insert i s hi ih =>
      intro hs
      rw [Finset.fold_insert hi, hs i (Finset.mem_insert_self i s), ih fun j hj => hs j (Finset.mem_insert_of_mem hj)]
      rfl
  rw [← Finset.insert_erase (Finset.mem_univ t), Finset.fold_insert (Finset.notMem_erase t _),
    hz _ fun i hi => h i (Finset.ne_of_mem_erase hi)]
  exact BitVec.add_zero _

/-- The row's rank at its choice, zero past the capacity. -/
theorem refPos_eq (n : Fin 4096) :
    refPos x (ix1 n) = BitVec.ofNat 32 (if rank (rows x) n.val < 640 then rank (rows x) n.val else 0) := by
  have hc := choice_lt (rows x) n.val
  pointwise [refPos]
  rw [fold_addi_single (⟨choice (rows x) n.val, hc⟩ : Fin 8)]
  · rw [refMask_eq, refRank_eq x n _ rfl]
    by_cases h : rank (rows x) n.val < 640 <;> simp [h, IntOp.muli]
  · intro e he
    rw [refMask_eq, if_neg fun h => he (Fin.ext h.1.symm)]
    exact BitVec.zero_mul

/-- The one-hot of the rank. -/
theorem refPosHot_eq (n : Fin 4096) (c : Fin 640) :
    refPosHot x (ix2 n c) = if (if rank (rows x) n.val < 640 then rank (rows x) n.val else 0) = c.val then (1 : EReal) else 0 := by
  have := rank_lt x n
  pointwise [refPosHot]
  rw [refPos_eq, cmpi_eq_word (by split <;> omega) (by omega)]
  generalize (if rank (rows x) n.val < 640 then rank (rows x) n.val else 0) = q
  show (((if q = c.val then 1#1 else 0#1).toNat : ℝ) : EReal) = _
  by_cases h : q = c.val <;> simp [h]

/-- The greatest score of a row. -/
theorem refMax_eq (n : Fin 4096) : refMax x (ix1 n) = rowMax (rows x n) := by
  have hb : Ideal.ofBits .f32 4286578688#32 = ⊥ := by simp [Ideal.ofBits, Ideal.ieee]
  pointwise [refMax]
  rw [hb, max_eq_right bot_le]; rfl

/-- The softmax weights. -/
theorem refSoft_eq (n : Fin 4096) (e : Fin 8) : refSoft x (ix2 n e) = soft (rows x n) e := by
  pointwise [refSoft, refExp]
  rw [refMax_eq]; rfl

/-- The first result. -/
theorem refCombine_eq (n : Fin 4096) (e : Fin 8) (c : Fin 640) :
    refCombine x (ix3 n e c) = combine (rows x) n e c := by
  pointwise [refCombine]
  rw [refMask_eq, refSoft_eq, refPosHot_eq]
  have hs : ∀ p : Prop, ∀ [Decidable p], (FloatOps.sitofp .f32 (if p then 1#32 else 0#32) : Ideal .f32) = if p then (1 : EReal) else 0 := by
    intro p _
    show (((if p then 1#32 else 0#32 : BitVec 32).toInt : ℝ) : EReal) = _
    by_cases h : p <;> simp [h]
  rw [hs]
  unfold combine
  by_cases he : choice (rows x) n.val = e.val
  · have ht : e = top (rows x n) := Fin.ext (he.symm.trans (choice_fin (rows x) n))
    by_cases hc : rank (rows x) n.val = c.val
    · have hr : rank (rows x) n.val < 640 := by omega
      rw [if_pos ⟨he, hr⟩, if_pos hr, if_pos hc, if_pos (show At (rows x) n e c from ⟨he, hc⟩), one_mul, mul_one, ht]
    · rw [if_neg (show ¬At (rows x) n e c from fun h => hc h.2)]
      by_cases hr : rank (rows x) n.val < 640
      · rw [if_pos hr, if_neg hc, mul_zero]
      · rw [if_neg fun h => hr h.2, zero_mul, zero_mul]
  · rw [if_neg fun h => he h.1, zero_mul, zero_mul, if_neg (show ¬At (rows x) n e c from fun h => he h.1)]

/-- The second result. -/
theorem refSec_eq (n : Fin 4096) (e : Fin 8) (c : Fin 640) :
    refSec x (ix3 n e c) = mask (rows x) n e c := by
  pointwise [refSec]
  rw [refCombine_eq]
  unfold combine mask
  by_cases h : At (rows x) n e c
  · rw [if_pos h, if_pos h, decide_eq_true (soft_top_ne_zero _)]; rfl
  · rw [if_neg h, if_neg h, decide_eq_false fun h' => h' rfl]; rfl

end Read

end Cert.Router
-- ==== Proof.Equation.lean ====
/-
  THE EQUATION: on equal arguments the kernel and the reference, both over the extended reals, leave the same two results.
-/
module

public import proofs.«01_k».proof.Defs
public import proofs.«01_k».proof.Proof.Tail
public import proofs.«01_k».proof.Proof.Ref
public import Idealize.ShloMosaic.Lib.Claim

@[expose] public section

set_option maxRecDepth 16384

noncomputable section

namespace Cert.Proof

open Idealize.ShloMosaic Idealize.ShloMosaic.TcCoe Idealize.SL.Sem

/-- The reference's first result, over the kernel's argument, is the kernel's. -/
theorem combine_agree (m : (ℓ : Loc Cert.KernelIdeal.nD Cert.KernelIdeal.τ Cert.KernelIdeal.sig) → Buf (Elt Ideal) ℓ)
    (c : Dev Cert.KernelIdeal.nD) :
    Router.refCombine (m ((c.tc : Thread Cert.KernelIdeal.nD Cert.KernelIdeal.τ).loc Cert.KernelIdeal.main_arg0))
      = (Pipeline.afterTail₀ Cert.KernelIdeal.cfgs (Cert.KernelIdeal.Gen.dats m) 0 (Cert.KernelIdeal.Gen.V0 m)
          [Cert.KernelIdeal.Gen.hostOps1] c Cert.KernelIdeal.main_v11 : FVec Ideal Cert.KernelIdeal.S4096x8x640 .f32) := by
  funext j
  idx_vars j
  exact (Router.refCombine_eq _ j0 j1 j2).trans (Router.kernel_combine m c j0 j1 j2).symm

/-- The reference's second result, over the kernel's argument, is the kernel's. -/
theorem mask_agree (m : (ℓ : Loc Cert.KernelIdeal.nD Cert.KernelIdeal.τ Cert.KernelIdeal.sig) → Buf (Elt Ideal) ℓ)
    (c : Dev Cert.KernelIdeal.nD) :
    Router.refSec (m ((c.tc : Thread Cert.KernelIdeal.nD Cert.KernelIdeal.τ).loc Cert.KernelIdeal.main_arg0))
      = (Pipeline.afterTail₀ Cert.KernelIdeal.cfgs (Cert.KernelIdeal.Gen.dats m) 0 (Cert.KernelIdeal.Gen.V0 m)
          [Cert.KernelIdeal.Gen.hostOps1] c Cert.KernelIdeal.main_v12 : IVec Cert.KernelIdeal.S4096x8x640 1) := by
  funext j
  idx_vars j
  exact (Router.refSec_eq _ j0 j1 j2).trans (Router.kernel_mask m c j0 j1 j2).symm

set_option maxHeartbeats 3200000 in
/-- The kernel and the reference over the extended reals: the same results from the same argument. -/
theorem algebraic : Cert.algebraic_KernelIdeal_ReferenceIdeal := by
  pair_intro
  · run_from Cert.KernelIdeal.Gen.run_main m g
  · hlo_run
    · simp -implicitDefEqProofs only [StableHlo.TRef.toBuf, StableHlo.TRef.ofBuf, cast_cast, cast_eq]
      refine Eq.trans ?_ (combine_agree m _)
      rfl
    · simp -implicitDefEqProofs only [StableHlo.TRef.toBuf, StableHlo.TRef.ofBuf, cast_cast, cast_eq]
      refine Eq.trans ?_ (mask_agree m _)
      rfl

end Cert.Proof
-- ==== Proof.lean ====
/-
  THE CLAIM, assembled. The kernel as compiled, the same kernel over the extended reals, and the reference over the extended
  reals each run to completion, change no argument and leave every semaphore counter at zero; the idealized kernel is the
  compiled one with its operations read over the extended reals; and from the same argument the idealized kernel and the
  reference leave the same two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The whole claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
